-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distance_in_bins [hPre_distance_in_bins : Cert.Pre_distance_in_bins.Facts] (m : (ℓ : Loc Cert.KernelIdeal.nD Cert.KernelIdeal.τ Cert.KernelIdeal.sig) → Buf (Elt Ideal) ℓ) : Prop :=
  ∀ c : Dev Cert.KernelIdeal.nD,
    (Cert.Pre_distance_in_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distance_in_bins [hPre_distance_in_bins : Cert.Pre_distance_in_bins.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distance_in_bins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_distance_in_bins [hKernelIdeal : Cert.KernelIdeal.Facts] [hPre_distance_in_bins : Cert.Pre_distance_in_bins.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distance_in_bins m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_distance_in_bins [hReferenceIdeal : Cert.ReferenceIdeal.Facts] [hPre_distance_in_bins : Cert.Pre_distance_in_bins.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distance_in_bins m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_distance_in_bins [hKernelIdeal : Cert.KernelIdeal.Facts] [hReferenceIdeal : Cert.ReferenceIdeal.Facts] [hPre_distance_in_bins : Cert.Pre_distance_in_bins.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distance_in_bins m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_distance_in_bins : Cert.Pre_distance_in_bins.Facts),
    quiescent_Kernel (hKernel := hKernel)
    ∧ quiescent_KernelIdeal (hKernelIdeal := hKernelIdeal)
    ∧ quiescent_KernelIdeal_pre_distance_in_bins (hKernelIdeal := hKernelIdeal) (hPre_distance_in_bins := hPre_distance_in_bins)
    ∧ quiescent_ReferenceIdeal (hReferenceIdeal := hReferenceIdeal)
    ∧ quiescent_ReferenceIdeal_pre_distance_in_bins (hReferenceIdeal := hReferenceIdeal) (hPre_distance_in_bins := hPre_distance_in_bins)
    ∧ preserves_Kernel_KernelIdeal
    ∧ algebraic_KernelIdeal_ReferenceIdeal_pre_distance_in_bins (hKernelIdeal := hKernelIdeal) (hReferenceIdeal := hReferenceIdeal) (hPre_distance_in_bins := hPre_distance_in_bins)
-- ==== Pre_distance_in_bins.lean ====
abbrev S131072x512 : Shape := ⟨2, ![131072, 512]⟩
abbrev S131072 : Shape := ⟨1, ![131072]⟩
abbrev S18x512 : Shape := ⟨2, ![18, 512]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel

variable [Facts]

def fn {F : FTy → Type} [FloatOps F] (main_arg0 : FVec F S131072x512 .f32) (main_arg1 : FVec F S131072 .f32) (main_arg2 : FVec F S18x512 .f32) : IVec S_ 1 :=
  let main_cst : FVec F S_ .f32 := constant S_ .f32 0xBF800000#32
  let main_v0 : FVec F S131072 .f32 := broadcastInDim S131072 ![] bcast_S_S131072 main_cst
  let main_v1 : IVec S131072 1 := cmpf .ogt main_arg1 main_v0
  let main_cst_0 : FVec F S_ .f32 := constant S_ .f32 0x43600000#32
  let main_v2 : FVec F S131072 .f32 := broadcastInDim S131072 ![] bcast_S_S131072 main_cst_0
  let main_v3 : IVec S131072 1 := cmpf .ole main_arg1 main_v2
  let main_v4 : IVec S131072 1 := andi main_v1 main_v3
  let main_c : IVec S_ 1 := constantI S_ 1 1#1
  let main_v5 : IVec S_ 1 := (fun x v => Host.reduce IntOp.andi x v reducesTo_S131072_S_d0 h_S_) main_v4 main_c
  main_v5
-- ==== Kernel.lean ====
abbrev S131072x512 : Shape := ⟨2, ![131072, 512]⟩
abbrev S131072 : Shape := ⟨1, ![131072]⟩
abbrev S18x512 : Shape := ⟨2, ![18, 512]⟩
abbrev S1x128 : Shape := ⟨2, ![1, 128]⟩
abbrev S131072x1 : Shape := ⟨2, ![131072, 1]⟩
abbrev S_ : Shape := ⟨0, ![]⟩
abbrev S128x512 : Shape := ⟨2, ![128, 512]⟩
abbrev S1 : Shape := ⟨1, ![1]⟩
abbrev S1024x1 : Shape := ⟨2, ![1024, 1]⟩
abbrev S1024x512 : Shape := ⟨2, ![1024, 512]⟩
abbrev S1024x128 : Shape := ⟨2, ![1024, 128]⟩

abbrev nBuf : Space → Nat
  | .hbm => 12
  | .vmem => 9
  | .smem => 0
  | _ => 0

abbrev bufTy : (tb : Table) → Fin (tcTables nBuf tb) → BufTy
  | .hbm, ⟨0, _⟩ => ⟨S131072x512, .f32⟩
  | .hbm, ⟨1, _⟩ => ⟨S131072, .f32⟩
  | .hbm, ⟨2, _⟩ => ⟨S18x512, .f32⟩
  | .hbm, ⟨3, _⟩ => ⟨S1x128, .f32⟩
  | .hbm, ⟨4, _⟩ => ⟨S1x128, .f32⟩
  | .hbm, ⟨5, _⟩ => ⟨S131072x1, .f32⟩
  | .hbm, ⟨6, _⟩ => ⟨S_, .f32⟩
  | .hbm, ⟨7, _⟩ => ⟨S128x512, .f32⟩
  | .hbm, ⟨8, _⟩ => ⟨S_, .i32⟩
  | .hbm, ⟨9, _⟩ => ⟨S1, .i32⟩
  | .hbm, ⟨10, _⟩ => ⟨S128x512, .f32⟩
  | .hbm, ⟨11, _⟩ => ⟨S131072x512, .f32⟩
  | .local _ .vmem, ⟨0, _⟩ => ⟨S1024x1, .f32⟩
  | .local _ .vmem, ⟨1, _⟩ => ⟨S1024x1, .f32⟩
  | .local _ .vmem, ⟨2, _⟩ => ⟨S1024x512, .f32⟩
  | .local _ .vmem, ⟨3, _⟩ => ⟨S1024x512, .f32⟩
  | .local _ .vmem, ⟨4, _⟩ => ⟨S1x128, .f32⟩
  | .local _ .vmem, ⟨5, _⟩ => ⟨S1x128, .f32⟩
  | .local _ .vmem, ⟨6, _⟩ => ⟨S128x512, .f32⟩
  | .local _ .vmem, ⟨7, _⟩ => ⟨S1024x512, .f32⟩
  | .local _ .vmem, ⟨8, _⟩ => ⟨S1024x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_cst_0 : Ref sig .tc := ⟨.hbm, 4, rfl⟩
abbrev main_call0_v0 : Ref sig .tc := ⟨.hbm, 5, rfl⟩
abbrev main_call0_cst_1 : Ref sig .tc := ⟨.hbm, 6, rfl⟩
abbrev main_call0_v1 : Ref sig .tc := ⟨.hbm, 7, rfl⟩
abbrev main_call0_c : Ref sig .tc := ⟨.hbm, 8, rfl⟩
abbrev main_call0_v2 : Ref sig .tc := ⟨.hbm, 9, rfl⟩
abbrev main_call0_v3 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S131072x512 : Shape := ⟨2, ![131072, 512]⟩
abbrev S131072 : Shape := ⟨1, ![131072]⟩
abbrev S18x512 : Shape := ⟨2, ![18, 512]⟩
abbrev S19 : Shape := ⟨1, ![19]⟩
abbrev S1x19 : Shape := ⟨2, ![1, 19]⟩
abbrev S131072x1 : Shape := ⟨2, ![131072, 1]⟩
abbrev S131072x19 : Shape := ⟨2, ![131072, 19]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .f32⟩
  | .hbm, ⟨2, _⟩ => ⟨S18x512, .f32⟩
  | .hbm, ⟨3, _⟩ => ⟨S19, .f32⟩
  | .hbm, ⟨4, _⟩ => ⟨S1x19, .f32⟩
  | .hbm, ⟨5, _⟩ => ⟨S131072x1, .f32⟩
  | .hbm, ⟨6, _⟩ => ⟨S131072x19, .f32⟩
  | .hbm, ⟨7, _⟩ => ⟨S131072x19, .f32⟩
  | .hbm, ⟨8, _⟩ => ⟨S131072x19, .i1⟩
  | .hbm, ⟨9, _⟩ => ⟨S131072x19, .i32⟩
  | .hbm, ⟨10, _⟩ => ⟨S_, .i32⟩
  | .hbm, ⟨11, _⟩ => ⟨S131072, .i32⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072x512, .f32⟩
  | .hbm, ⟨24, _⟩ => ⟨S131072x512, .f32⟩
  | .hbm, ⟨25, _⟩ => ⟨S131072x1, .f32⟩
  | .hbm, ⟨26, _⟩ => ⟨S131072x512, .f32⟩
  | .hbm, ⟨27, _⟩ => ⟨S131072x512, .f32⟩
  | .hbm, ⟨28, _⟩ => ⟨S131072x512, .f32⟩
  | .hbm, ⟨29, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Bins.lean ====
module

public import Idealize.ShloMosaic.PureOps.Ideal
public import Mathlib.Tactic.FinCases
public import Mathlib.Tactic.IntervalCases
public import Mathlib.Tactic.NormNum

/-!
# The distance bins

The nineteen bin edges `-1, 10, 20, …, 224`, read from their `f32` words as extended reals, and the
two ways a distance is put into a bin: by counting the edges below it, and by asking which half-open
interval `(edge b, edge (b + 1)]` holds it.  Nothing here names a program.
-/

@[expose] public section

noncomputable section

namespace Cert.DistanceBins

open Idealize.ShloMosaic

/-- The bin edges, in order. -/
def edge : Fin 19 → ℤ :=
  ![-1, 10, 20, 30, 40, 50, 60, 70, 80, 90, 100, 110, 120, 130, 140, 150, 170, 190, 224]

/-- The `f32` words of the bin edges, in the same order. -/
def edgeWord : Fin 19 → BitVec 32 :=
  ![0xBF800000#32, 0x41200000#32, 0x41A00000#32, 0x41F00000#32, 0x42200000#32, 0x42480000#32, 0x42700000#32,
    0x428C0000#32, 0x42A00000#32, 0x42B40000#32, 0x42C80000#32, 0x42DC0000#32, 0x42F00000#32, 0x43020000#32,
    0x430C0000#32, 0x43160000#32, 0x432A0000#32, 0x433E0000#32, 0x43600000#32]

/-- A bin edge as an extended real: what its `f32` word denotes. -/
def edgeVal (j : Fin 19) : EReal := Ideal.ofBits .f32 (edgeWord j)

/-- Each edge's word denotes the edge. -/
theorem edgeVal_eq (j : Fin 19) : edgeVal j = ((edge j : ℝ) : EReal) := by
  fin_cases j <;> simp [edgeVal, edgeWord, edge, Ideal.ofBits, Ideal.ieee, -EReal.coe_mul] <;> norm_num

/-- The word of positive infinity denotes the top element. -/
theorem ofBits_inf : Ideal.ofBits .f32 0x7F800000#32 = (⊤ : EReal) := by
  simp [Ideal.ofBits, Ideal.ieee]

/-- The edges increase strictly. -/
theorem edge_strictMono : StrictMono edge := by
  rw [Fin.strictMono_iff_lt_succ]
  decide

/-- Read as extended reals the edges still increase strictly. -/
theorem edgeVal_strictMono : StrictMono edgeVal := fun i j h => by
  rw [edgeVal_eq, edgeVal_eq, EReal.coe_lt_coe_iff, Int.cast_lt]
  exact edge_strictMono h

/-- `d` lies in bin `b`: the edges below `d` are exactly those numbered `0` to `b`. -/
def InBin (d : EReal) (b : Fin 18) : Prop := ∀ j : Fin 19, edgeVal j < d ↔ j.val ≤ b.val

/-- Every distance above the first edge and not above the last lies in a bin. -/
theorem exists_inBin (d : EReal) (h0 : edgeVal 0 < d) (h1 : d ≤ edgeVal (Fin.last 18)) : ∃ b, InBin d b := by
  classical
  have hex : ∃ n, ∃ h : n < 19, ¬ edgeVal ⟨n, h⟩ < d := ⟨18, by omega, not_lt.2 h1⟩
  obtain ⟨hn, hnd⟩ := Nat.find_spec hex
  have hpos : Nat.find hex ≠ 0 := fun e => hnd (by
    have : (⟨Nat.find hex, hn⟩ : Fin 19) = 0 := Fin.ext e
    rw [this]; exact h0)
  refine ⟨⟨Nat.find hex - 1, by omega⟩, fun j => ⟨fun hj => ?_, fun hj => ?_⟩⟩
  · by_contra hlt
    have hle : (⟨Nat.find hex, hn⟩ : Fin 19) ≤ j := Fin.le_def.2 (by simp only at hlt ⊢; omega)
    exact hnd ((edgeVal_strictMono.monotone hle).trans_lt hj)
  · by_contra hlt
    have := Nat.find_min' hex ⟨j.isLt, hlt⟩
    simp only at hj
    omega

/-- The number of edges below a distance in bin `b` is `b + 1`. -/
theorem card_below {d : EReal} {b : Fin 18} (h : InBin d b) :
    (Finset.univ.filter fun j : Fin 19 => edgeVal j < d).card = b.val + 1 := by
  rw [Finset.filter_congr fun j _ => h j]
  have hb := b.isLt
  generalize b.val = n at hb
  interval_cases n <;> decide

/-- The lower end of interval `k` of the padded table: edge `k` for the eighteen bins, infinity beyond. -/
def lower (k : Fin 128) : EReal := if h : k.val < 18 then edgeVal ⟨k.val, by omega⟩ else ⊤

/-- The upper end of interval `k` of the padded table: edge `k + 1` for the eighteen bins, infinity beyond. -/
def upper (k : Fin 128) : EReal := if h : k.val < 18 then edgeVal ⟨k.val + 1, by omega⟩ else ⊤

/-- A distance in bin `b` lies in interval `k` of the padded table exactly when `k` is `b`. -/
theorem mem_interval_iff {d : EReal} {b : Fin 18} (h : InBin d b) (k : Fin 128) :
    (lower k < d ∧ d ≤ upper k) ↔ k = b.castLE (by omega) := by
  rw [Fin.ext_iff, Fin.val_castLE]
  unfold lower upper
  by_cases hk : k.val < 18
  · rw [dif_pos hk, dif_pos hk, ← not_lt, h, h]
    simp only
    omega
  · have := b.isLt
    rw [dif_neg hk, dif_neg hk]
    exact ⟨fun q => absurd q.1 not_top_lt, fun q => by omega⟩

/-- The indicator of interval `k` of the padded table at distance `d`: one inside, zero outside. -/
def indicator (d : EReal) (k : Fin 128) : EReal := open Classical in if lower k < d ∧ d ≤ upper k then 1 else 0

/-- The indicators of a distance in bin `b` pick entry `b` out of any column of extended reals. -/
theorem sum_indicator {d : EReal} {b : Fin 18} (h : InBin d b) (s : Fin 128 → EReal) :
    ∑ k, indicator d k * s k = s (b.castLE (by omega)) := by
  rw [Finset.sum_eq_single (b.castLE (by omega))]
  · rw [indicator, if_pos ((mem_interval_iff h _).2 rfl), one_mul]
  · intro k _ hk
    rw [indicator, if_neg fun q => hk ((mem_interval_iff h k).1 q), zero_mul]
  · exact fun q => absurd (Finset.mem_univ _) q

end Cert.DistanceBins

end
-- ==== Proof.Pad.lean ====
module

public import proofs.«01_k».proof.Proof.Gen.KernelIdeal.Value
public import Idealize.ShloMosaic.Lib.Routing.OpsSet
public import Idealize.ShloMosaic.PureOps.Ideal

/-!
# The padded scale table

The launch writes the eighteen rows of scales over the first rows of a table of 128 rows.  Here is what the
table then holds, row by row.
-/

@[expose] public section

noncomputable section

namespace Cert.KernelIdeal.Pad

open Cert.KernelIdeal Idealize.ShloMosaic

/-- Written at row zero, update entry `k` lands at the table entry with the same coordinates. -/
theorem lands_iff (idx : IVec S1 32) (hidx : ∀ i, idx i = 0#32) (k : S18x512.Idx) (i : S128x512.Idx) :
    scatter_S128x512_S1_S18x512_01_n_0_0.resultIdx? k idx = some i ↔ (k 0).val = (i 0).val ∧ (k 1).val = (i 1).val := by
  have hs : ∀ a, scatter_S128x512_S1_S18x512_01_n_0_0.start k idx a = 0 := fun a => by
    unfold ScatterDims.start
    split
    · rw [hidx]; rfl
    · rfl
  have hw0 : scatter_S128x512_S1_S18x512_01_n_0_0.window k 0 = (k 0).val := rfl
  have hw1 : scatter_S128x512_S1_S18x512_01_n_0_0.window k 1 = (k 1).val := rfl
  rw [Routing.resultIdx?_eq_some]
  constructor
  · intro h
    have e0 := h 0
    have e1 := h 1
    rw [hs, hw0] at e0
    rw [hs, hw1] at e1
    omega
  · rintro ⟨e0, e1⟩ a
    rw [hs]
    match a with
    | ⟨0, _⟩ => exact (zero_add _).trans (congrArg Nat.cast (hw0.trans e0))
    | ⟨1, _⟩ => exact (zero_add _).trans (congrArg Nat.cast (hw1.trans e1))

/-- A row below eighteen of the written table is the row of scales of that number. -/
theorem scatter_low (z : S128x512.Idx → EReal) (idx : IVec S1 32) (hidx : ∀ i, idx i = 0#32) (s : S18x512.Idx → EReal)
    (k : S18x512.Idx) (i : S128x512.Idx) (h0 : (k 0).val = (i 0).val) (h1 : (k 1).val = (i 1).val) :
    Host.scatter scatter_S128x512_S1_S18x512_01_n_0_0 (fun _ b => b) z idx s i = s k := by
  refine Routing.scatter_set_hit _ z idx s i (s k) (fun k' hk' => congrArg s ?_) k ((lands_iff idx hidx k i).2 ⟨h0, h1⟩)
  obtain ⟨q0, q1⟩ := (lands_iff idx hidx k' i).1 hk'
  funext a
  match a with
  | ⟨0, _⟩ => exact Fin.ext (q0.trans h0.symm)
  | ⟨1, _⟩ => exact Fin.ext (q1.trans h1.symm)

end Cert.KernelIdeal.Pad

end
-- ==== Proof.Block.lean ====
module

public import proofs.«01_k».proof.Proof.Bins
public import proofs.«01_k».proof.Proof.Pad
public import Idealize.ShloMosaic.Lib.Pointwise
public import Idealize.ShloMosaic.Lib.Pipeline.ValueKit

/-!
# What the kernel's result array holds

One block of the kernel, then the arrays the launch prepares, then the whole result array.
-/

@[expose] public section

set_option maxRecDepth 16384

noncomputable section

namespace Cert.KernelIdeal.Block

open Cert.KernelIdeal Cert.KernelIdeal.Gen Idealize.ShloMosaic Idealize.ShloMosaic.TcCoe Idealize.SL.Sem
open Cert.DistanceBins

/-- The word the kernel makes of two comparisons and converts to a float is one where both hold, else zero. -/
theorem maskWord (p q : Prop) [Decidable p] [Decidable q] :
    (FloatOps.sitofp FTy.f32 (BitVec.setWidth 32 (IntOp.andi (BitVec.ofBool (decide p)) (BitVec.ofBool (decide q)))) : Ideal .f32)
      = if p ∧ q then (1 : EReal) else 0 := by
  have h1 : (FloatOps.sitofp FTy.f32 (1#32) : Ideal .f32) = (1 : EReal) := by
    show (((1#32).toInt : ℝ) : EReal) = 1
    simp
  have h0 : (FloatOps.sitofp FTy.f32 (0#32) : Ideal .f32) = (0 : EReal) := by
    show (((0#32).toInt : ℝ) : EReal) = 0
    simp
  by_cases hp : p <;> by_cases hq : q <;> simp only [hp, hq, decide_true, decide_false, and_self, and_true, and_false, if_true, if_false]
  · exact h1
  all_goals exact h0

/-- One block: entry `(r, f)` is `x (r, f)` times the exponential of minus the masked sum of column `f` of
    the scales, times the distance of row `r`. -/
theorem pay_apply (d : Vec Ideal S1024x1 .f32) (lo hi : Vec Ideal S1x128 .f32) (s : Vec Ideal S128x512 .f32)
    (x : Vec Ideal S1024x512 .f32) (r : Fin 1024) (f : Fin 512) :
    k0_pay1 d lo hi s x (ix2 r f)
      = x (ix2 r f) * Ideal.exp ((0 - ∑ k : Fin 128,
          (open Classical in if lo (ix2 0 k) < d (ix2 r 0) ∧ d (ix2 r 0) ≤ hi (ix2 0 k) then (1 : EReal) else 0) * s (ix2 k f)) * d (ix2 r 0)) := by
  pointwise [k0_pay1]
  refine congrArg (fun t => x (ix2 r f) * Ideal.exp ((0 - t) * d (ix2 r 0))) (Finset.sum_congr rfl fun k _ => ?_)
  rw [maskWord]

variable (m : (ℓ : Loc nD τ sig) → Buf (Elt Ideal) ℓ)

/-- The first literal table holds the words of edges `0` to `17`, then words of infinity. -/
theorem lit0_word : ∀ k : Fin 128, lit0 (S1x128.rowMajor (ix2 0 k)) = if h : k.val < 18 then edgeWord ⟨k.val, by omega⟩ else 0x7F800000#32 := by
  decide +kernel

/-- The second literal table holds the words of edges `1` to `18`, then words of infinity. -/
theorem lit1_word : ∀ k : Fin 128, lit1 (S1x128.rowMajor (ix2 0 k)) = if h : k.val < 18 then edgeWord ⟨k.val + 1, by omega⟩ else 0x7F800000#32 := by
  decide +kernel

/-- When the kernel starts, the first literal table denotes the lower ends of the padded intervals. -/
theorem V_lo (c : Dev nD) (k : Fin 128) : (V m c main_call0_cst : S1x128.Idx → EReal) (ix2 0 k) = lower k := by
  simp only [V]
  entry_read
  show Ideal.ofBits FTy.f32 (lit0 (S1x128.rowMajor (ix2 0 k))) = _
  rw [lit0_word, lower]
  split
  · rfl
  · exact ofBits_inf

/-- When the kernel starts, the second literal table denotes the upper ends of the padded intervals. -/
theorem V_hi (c : Dev nD) (k : Fin 128) : (V m c main_call0_cst_0 : S1x128.Idx → EReal) (ix2 0 k) = upper k := by
  simp only [V]
  entry_read
  show Ideal.ofBits FTy.f32 (lit1 (S1x128.rowMajor (ix2 0 k))) = _
  rw [lit1_word, upper]
  split
  · rfl
  · exact ofBits_inf

/-- When the kernel starts, the column of distances holds the distances. -/
theorem V_d (c : Dev nD) (r : Fin 131072) :
    (V m c main_call0_v0 : S131072x1.Idx → EReal) (ix2 r 0) = (m (c.tc.loc main_arg1) : S131072.Idx → EReal) (ix1 r) := by
  simp only [V]
  entry_read
  pointwise

/-- When the kernel starts, rows `0` to `17` of the padded table are the rows of scales. -/
theorem V_pad (c : Dev nD) (k : Fin 128) (b : Fin 18) (hk : b.val = k.val) (f : Fin 512) :
    (V m c main_call0_v3 : S128x512.Idx → EReal) (ix2 k f) = (m (c.tc.loc main_arg2) : S18x512.Idx → EReal) (ix2 b f) := by
  simp only [V]
  entry_read
  simp only [StableHlo.TRef.ofBuf_toBuf]
  simp -implicitDefEqProofs only [StableHlo.TRef.toBuf, StableHlo.TRef.ofBuf, cast_cast, cast_eq]
  exact Pad.scatter_low _ _ (fun i => by pointwise) _ (ix2 b f) (ix2 k f) hk rfl

end Cert.KernelIdeal.Block

end
-- ==== Proof.Array.lean ====
module

public import proofs.«01_k».proof.Proof.Block

/-!
# The whole result array

Each grid point reads its own 1024 rows of distances and of `x` and the three small tables whole, and writes
its own 1024 rows of the result; together the blocks cover the array.
-/

@[expose] public section

set_option maxRecDepth 16384

noncomputable section

namespace Cert.KernelIdeal.Array

open Cert.KernelIdeal Cert.KernelIdeal.Gen Idealize.ShloMosaic Idealize.ShloMosaic.TcCoe Idealize.SL.Sem
open Cert.DistanceBins

/-- Entry `(r, f)` of the result as a function of `x`, the distances and a table of 128 rows of scales: `x (r, f)`
    times the exponential of minus the masked sum of column `f` of the table, times the distance of row `r`. -/
def masked (x : FVec Ideal S131072x512 .f32) (d : FVec Ideal S131072 .f32) (p : FVec Ideal S128x512 .f32) : FVec Ideal S131072x512 .f32 :=
  fun i => x i * Ideal.exp ((0 - ∑ k : Fin 128, indicator (d (ix1 (i 0))) k * p (ix2 k (i 1))) * d (ix1 (i 0)))

variable (m : (ℓ : Loc nD τ sig) → Buf (Elt Ideal) ℓ)

/-- At grid point `t` the windows of distances, of `x` and of the result are at block row `t`; the others stay at the origin. -/
theorem idx : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![t.val, 0] := by decide +kernel

/-- Row `r` of block `t`, as a row of the whole array. -/
def row (t : Fin grid0.N) (r : Fin 1024) : Fin 131072 := ⟨t.val * 1024 + r.val, by
  have h : t.val < 128 := t.isLt
  have := r.isLt
  omega⟩

/-- The block of distances at point `t` holds the distances of its rows. -/
theorem read_d (c : Dev nD) (t : Fin grid0.N) (r : Fin 1024) :
    (iblk m c 0 t : S1024x1.Idx → EReal) (ix2 r 0) = (m (c.tc.loc main_arg1) : S131072.Idx → EReal) (ix1 (row t r)) := by
  refine Eq.trans ?_ (Block.V_d m c (row t r))
  blk_ext [iblk, row, idx t]

/-- The block of `x` at point `t` holds `x` at its rows. -/
theorem read_x (c : Dev nD) (t : Fin grid0.N) (r : Fin 1024) (f : Fin 512) :
    (iblk m c 1 t : S1024x512.Idx → EReal) (ix2 r f) = (m (c.tc.loc main_arg0) : S131072x512.Idx → EReal) (ix2 (row t r) f) := by
  rw [← V_main_arg0 m c]
  blk_ext [iblk, row, idx t]

/-- Every point reads the lower ends of the padded intervals. -/
theorem read_lo (c : Dev nD) (t : Fin grid0.N) (k : Fin 128) :
    (iblk m c 2 t : S1x128.Idx → EReal) (ix2 0 k) = lower k := by
  refine Eq.trans ?_ (Block.V_lo m c k)
  blk_ext [iblk, idx t]

/-- Every point reads the upper ends of the padded intervals. -/
theorem read_hi (c : Dev nD) (t : Fin grid0.N) (k : Fin 128) :
    (iblk m c 3 t : S1x128.Idx → EReal) (ix2 0 k) = upper k := by
  refine Eq.trans ?_ (Block.V_hi m c k)
  blk_ext [iblk, idx t]

/-- Every point reads the padded table of scales whole. -/
theorem read_pad (c : Dev nD) (t : Fin grid0.N) (k : Fin 128) (f : Fin 512) :
    (iblk m c 4 t : S128x512.Idx → EReal) (ix2 k f) = (V m c main_call0_v3 : S128x512.Idx → EReal) (ix2 k f) := by
  blk_ext [iblk, idx t]

/-- Entry `(r, f)` of the result's block at point `t` is entry `(row t r, f)` of the array. -/
theorem emb_eq (t : Fin grid0.N) (r : Fin 1024) (f : Fin 512) :
    (((View.whole main_v0).slice (win0_5.rect t)).emb (ix2 r f) : S131072x512.Idx) = ix2 (row t r) f := by
  blk_ext [row, idx t]

/-- After the last point the result array is `masked` of the arguments and the padded table of scales. -/
theorem array_eq (c : Dev nD) : (dats m 0 c).arrAt 5 cfg0.N = masked (m (c.tc.loc main_arg0)) (m (c.tc.loc main_arg1)) (V m c main_call0_v3) := by
  refine (dats m 0 c).arrAt_eq_of_covers 5 _ (by decide +kernel) fun t hf y => ?_
  blk_simp
  rw [after0_5]
  frame_out
  idx_vars y
  refine Eq.trans ?_ (congrArg (masked (m (c.tc.loc main_arg0)) (m (c.tc.loc main_arg1)) (V m c main_call0_v3)) (emb_eq t y0 y1)).symm
  refine (Block.pay_apply _ _ _ _ _ y0 y1).trans ?_
  simp only [read_d, read_x, read_lo, read_hi, read_pad]
  rfl

end Cert.KernelIdeal.Array

end
-- ==== Proof.Reference.lean ====
module

public import proofs.«01_k».proof.Proof.Bins
public import proofs.«01_k».proof.Proof.Gen.ReferenceIdeal.Run
public import Idealize.ShloMosaic.Lib.Pointwise
public import Idealize.ShloMosaic.Lib.IndicatorCount
public import Idealize.ShloMosaic.Lib.Routing.OpsPair
public import Idealize.ShloMosaic.Lib.Routing.Ops
public import Idealize.ShloMosaic.Lib.Pointwise.IndexBridge

/-!
# What the reference computes

The reference counts the edges below each distance, takes the row of scales of that number less one, and
multiplies `x` by the exponential of minus that row times the distance.
-/

@[expose] public section

set_option maxRecDepth 16384

noncomputable section

namespace Cert.ReferenceIdeal.AtIndex

open Cert.ReferenceIdeal Cert.ReferenceIdeal.Gen Idealize.ShloMosaic Idealize.ShloMosaic.TcCoe Idealize.SL.Sem
open Cert.DistanceBins

/-- The reference's bin index of every distance: the number of edges below it, less one. -/
def binIndex (d : FVec Ideal S131072 .f32) : IVec S131072 32 :=
  subi (Host.reduce IntOp.addi (extui 32 (cmpf .olt
      (broadcastInDim S131072x19 ![0, 1] bcast_S1x19_S131072x19_0_1 (broadcastInDim S1x19 ![1] bcast_S19_S1x19_1 ((fun i => FloatOps.ofBits (F := Ideal) .f32 (lit0 (S19.rowMajor i))))))
      (broadcastInDim S131072x19 ![0, 1] bcast_S131072x1_S131072x19_0_1 (broadcastInDim S131072x1 ![0] bcast_S131072_S131072x1_0 d))) natLt_1_32)
    (constantI S_ 32 0#32) reducesTo_S131072x19_S131072_d1 h_S_) (broadcastInDim S131072 ![] bcast_S_S131072 (constantI S_ 32 1#32))

/-- The reference's result as a function of its three arguments. -/
def out (x : FVec Ideal S131072x512 .f32) (d : FVec Ideal S131072 .f32) (s : FVec Ideal S18x512 .f32) : FVec Ideal S131072x512 .f32 :=
  mulf x (Host.exp (mulf (Host.negf (Host.gather gather_S18x512_S131072x1_S131072x512_1_0_n_n_0_1_1512 s
      (broadcastInDim S131072x1 ![0] bcast_S131072_S131072x1_0
        (select (cmpi .slt (binIndex d) (broadcastInDim S131072 ![] bcast_S_S131072 (constantI S_ 32 0#32)))
          (addi (binIndex d) (broadcastInDim S131072 ![] bcast_S_S131072 (constantI S_ 32 18#32))) (binIndex d)))))
    (broadcastInDim S131072x512 ![0, 1] bcast_S131072x1_S131072x512_0_1 (broadcastInDim S131072x1 ![0] bcast_S131072_S131072x1_0 d))))

/-- The reference's table of edges holds the words of the edges. -/
theorem lit0_eq : ∀ j : Fin 19, lit0 (S19.rowMajor (ix1 j)) = edgeWord j := by decide +kernel

/-- The bin index of a distance in bin `b` is the word of `b`. -/
theorem binIndex_apply (d : FVec Ideal S131072 .f32) (r : Fin 131072) (b : Fin 18) (h : InBin (d (ix1 r)) b) :
    binIndex d (ix1 r) = BitVec.ofNat 32 b.val := by
  pointwise [binIndex]
  simp only [lit0_eq]
  rw [IndicatorCount.fold_addi_setWidth_eq_card]
  have hc : (Finset.univ.filter fun j : Fin 19 => BitVec.ofBool (decide (edgeVal j < d (ix1 r))) = 1#1).card = b.val + 1 := by
    rw [← card_below h]
    congr 1
    refine Finset.filter_congr fun j _ => ?_
    by_cases q : edgeVal j < d (ix1 r) <;> simp [q]
  refine (congrArg (fun n => IntOp.subi (BitVec.ofNat 32 n) 1#32) hc).trans ?_
  have hb := b.isLt
  generalize b.val = n at hb
  interval_cases n <;> rfl

/-- Where the distance of row `r` lies in bin `b`, entry `(r, f)` of the reference's result is `x (r, f)` times
    the exponential of minus the scale `(b, f)` times that distance. -/
theorem out_apply (x : FVec Ideal S131072x512 .f32) (d : FVec Ideal S131072 .f32) (s : FVec Ideal S18x512 .f32)
    (r : Fin 131072) (f : Fin 512) (b : Fin 18) (h : InBin (d (ix1 r)) b) :
    out x d s (ix2 r f) = x (ix2 r f) * Ideal.exp (-(s (ix2 b f)) * d (ix1 r)) := by
  pointwise [out]
  refine congrArg (fun t => x (ix2 r f) * Ideal.exp (-t * d (ix1 r))) ?_
  refine Routing.gather_row _ rfl rfl rfl rfl rfl s _ r f b ?_ (by decide)
  rw [← ix2_eq_valueIdx]
  pointwise
  rw [binIndex_apply d r b h]
  exact Routing.wrap_of_lt _ _ (by have := b.isLt; rw [BitVec.toNat_ofNat]; omega)

end Cert.ReferenceIdeal.AtIndex

end
-- ==== Proof.Equation.lean ====
module

public import proofs.«01_k».proof.Proof.Array
public import proofs.«01_k».proof.Proof.Reference
public import proofs.«01_k».proof.Proof.Gen.Pre_distance_in_bins
public import Idealize.ShloMosaic.Lib.ReduceAll

/-!
# The equation

Under the precondition every distance lies in a bin, and there the kernel's result array and the reference's
result agree at every entry.
-/

@[expose] public section

set_option maxRecDepth 16384

noncomputable section

namespace Cert.Equation

open Cert.KernelIdeal Cert.KernelIdeal.Gen Idealize.ShloMosaic Idealize.ShloMosaic.TcCoe Idealize.SL.Sem
open Cert.DistanceBins

/-- The precondition puts every distance in a bin. -/
theorem inBin_of_pre (x : FVec Ideal S131072x512 .f32) (d : FVec Ideal S131072 .f32) (s : FVec Ideal S18x512 .f32)
    (h : Cert.Pre_distance_in_bins.fn (F := Ideal) x d s = fun _ => 1#1) (r : Fin 131072) : ∃ b, InBin (d (ix1 r)) b := by
  have h1 := congrFun h ix0
  unfold Cert.Pre_distance_in_bins.fn at h1
  have h2 := Host.reduce_andi_all _ _ _ _ _ h1 (ix1 r)
  pointwise at h2
  obtain ⟨ha, hb⟩ := IntOp.andi_eq_one.1 h2
  refine exists_inBin _ ?_ ?_
  · by_contra q
    exact absurd ((congrArg BitVec.ofBool (decide_eq_false q)).symm.trans ha) (by decide)
  · by_contra q
    exact absurd ((congrArg BitVec.ofBool (decide_eq_false q)).symm.trans hb) (by decide)

/-- Where every distance lies in a bin, and the first eighteen rows of the table are the scales, the kernel's
    masked sum gives the reference's result. -/
theorem masked_eq_out (x : FVec Ideal S131072x512 .f32) (d : FVec Ideal S131072 .f32) (s : FVec Ideal S18x512 .f32)
    (p : FVec Ideal S128x512 .f32) (hp : ∀ (b : Fin 18) (f : Fin 512), p (ix2 (b.castLE (by omega)) f) = s (ix2 b f))
    (h : ∀ r : Fin 131072, ∃ b, InBin (d (ix1 r)) b) : Array.masked x d p = Cert.ReferenceIdeal.AtIndex.out x d s := by
  refine funext fun i => ?_
  obtain ⟨r, f, rfl⟩ : ∃ (r : Fin 131072) (f : Fin 512), i = ix2 r f := ⟨i 0, i 1, eq_ix2 i⟩
  obtain ⟨b, hb⟩ := h r
  rw [Cert.ReferenceIdeal.AtIndex.out_apply x d s r f b hb]
  show x (ix2 r f) * Ideal.exp ((0 - ∑ k : Fin 128, indicator (d (ix1 r)) k * p (ix2 k f)) * d (ix1 r)) = _
  rw [sum_indicator hb fun k => p (ix2 k f), zero_sub, hp]

variable (m : (ℓ : Loc nD τ sig) → Buf (Elt Ideal) ℓ)

/-- Where the distances lie in the bins, the kernel's result array is the reference's result. -/
theorem array_eq_out (c : Dev nD) (h : ∀ r : Fin 131072, ∃ b, InBin ((m (c.tc.loc main_arg1) : S131072.Idx → EReal) (ix1 r)) b) :
    (dats m 0 c).arrAt 5 cfg0.N
      = Cert.ReferenceIdeal.AtIndex.out (m (c.tc.loc main_arg0)) (m (c.tc.loc main_arg1)) (m (c.tc.loc main_arg2)) := by
  exact (Array.array_eq m c).trans (masked_eq_out _ _ _ _ (fun b f => Block.V_pad m c _ b rfl f) h)

end Cert.Equation

end
-- ==== Proof.lean ====
/-
  The certificate of the kernel: it runs and ends quiescent, so does its reading over the extended reals, so
  does the reference, and over the extended reals the kernel's result is the reference's wherever every
  distance lies in a bin.  The mathematics is in the modules under Proof/; here the conjuncts are assembled.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_distance_in_bins
public import proofs.«01_k».proof.Proof.Equation
public import Idealize.ShloMosaic.Adequacy
public import Idealize.ShloMosaic.Lib.Claim
public import Idealize.ShloMosaic.Init

@[expose] public section

noncomputable section

namespace Cert.Proof

open Idealize.ShloMosaic Idealize.SL.Sem

/-- The reference terminates with its arguments unchanged; it declares no semaphore, so every counter is zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Over the extended reals, from memories that agree on the arguments and put every distance in a bin, the kernel
    and the reference end with the same result array, their arguments unchanged. -/
theorem algebraic : Cert.algebraic_KernelIdeal_ReferenceIdeal_pre_distance_in_bins
    (hKernelIdeal := Cert.KernelIdeal.Gen.facts) (hReferenceIdeal := Cert.ReferenceIdeal.Gen.facts)
    (hPre_distance_in_bins := Cert.Pre_distance_in_bins.Gen.facts) := by
  intro m g m' g' hpre hagree
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨e0, e1, e2⟩ := hagree c
  rw [e0, e1, e2]
  exact (Cert.Equation.array_eq_out m c (Cert.Equation.inBin_of_pre _ _ _ (hpre c))).symm

/-- Everything the certificate claims. -/
theorem claim : Cert.Claim :=
  ⟨Cert.Kernel.Gen.facts, Cert.KernelIdeal.Gen.facts, Cert.ReferenceIdeal.Gen.facts, Cert.Pre_distance_in_bins.Gen.facts,
    fun m g _ => Cert.Kernel.Gen.frame m g, fun m g _ => Cert.KernelIdeal.Gen.frame m g, fun m g _ => Cert.KernelIdeal.Gen.frame m g,
    fun m g _ => frame_reference m g, fun m g _ => frame_reference m g, trivial, algebraic⟩

end Cert.Proof

end
